-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6_4) = v1 c
          ∧ r.2.mem ((c.tc : Thread Cert.ReferenceIdeal.nD Cert.ReferenceIdeal.τ).loc Cert.ReferenceIdeal.main_v6_5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x512 : Shape := ⟨3, ![64, 512, 512]⟩
abbrev S1536x1024 : Shape := ⟨2, ![1536, 1024]⟩
abbrev S1024 : Shape := ⟨1, ![1024]⟩
abbrev S512x1024 : Shape := ⟨2, ![512, 1024]⟩
abbrev S512x4096 : Shape := ⟨2, ![512, 4096]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S512x64x512 : Shape := ⟨3, ![512, 64, 512]⟩
abbrev S32768x512 : Shape := ⟨2, ![32768, 512]⟩
abbrev S32768x4096 : Shape := ⟨2, ![32768, 4096]⟩
abbrev S256x512 : Shape := ⟨2, ![256, 512]⟩
abbrev S256x4096 : Shape := ⟨2, ![256, 4096]⟩
abbrev S512x64x4096 : Shape := ⟨3, ![512, 64, 4096]⟩
abbrev S512x64x1024 : Shape := ⟨3, ![512, 64, 1024]⟩
abbrev S64x1024 : Shape := ⟨2, ![64, 1024]⟩
abbrev S1x64x4096 : Shape := ⟨3, ![1, 64, 4096]⟩
abbrev S1x64x1024 : Shape := ⟨3, ![1, 64, 1024]⟩
abbrev S64x4096 : Shape := ⟨2, ![64, 4096]⟩
abbrev S64x512x1024 : Shape := ⟨3, ![64, 512, 1024]⟩

abbrev nBuf : Space → Nat
  | .hbm => 30
  | .vmem => 13
  | .smem => 0
  | _ => 0

abbrev bufTy : (tb : Table) → Fin (tcTables nBuf tb) → BufTy
  | .hbm, ⟨0, _⟩ => ⟨S64x512x512, .f32⟩
  | .hbm, ⟨1, _⟩ => ⟨S1536x1024, .f32⟩
  | .hbm, ⟨2, _⟩ => ⟨S1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x4096, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x4096, .f32⟩
  | .hbm, ⟨19, _⟩ => ⟨S1024x4096, .bf16⟩
  | .hbm, ⟨20, _⟩ => ⟨S4096, .f32⟩
  | .hbm, ⟨21, _⟩ => ⟨S1x4096, .f32⟩
  | .hbm, ⟨22, _⟩ => ⟨S512x64x512, .f32⟩
  | .hbm, ⟨23, _⟩ => ⟨S32768x512, .f32⟩
  | .hbm, ⟨24, _⟩ => ⟨S32768x4096, .f32⟩
  | .hbm, ⟨25, _⟩ => ⟨S512x64x4096, .f32⟩
  | .hbm, ⟨26, _⟩ => ⟨S512x64x1024, .f32⟩
  | .hbm, ⟨27, _⟩ => ⟨S64x1024, .f32⟩
  | .hbm, ⟨28, _⟩ => ⟨S64x1024, .f32⟩
  | .hbm, ⟨29, _⟩ => ⟨S64x512x1024, .f32⟩
  | .local _ .vmem, ⟨0, _⟩ => ⟨S256x512, .f32⟩
  | .local _ .vmem, ⟨1, _⟩ => ⟨S256x512, .f32⟩
  | .local _ .vmem, ⟨2, _⟩ => ⟨S512x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1x64x4096, .f32⟩
  | .local _ .vmem, ⟨7, _⟩ => ⟨S1x64x4096, .f32⟩
  | .local _ .vmem, ⟨8, _⟩ => ⟨S1024x4096, .bf16⟩
  | .local _ .vmem, ⟨9, _⟩ => ⟨S1x64x1024, .f32⟩
  | .local _ .vmem, ⟨10, _⟩ => ⟨S1x64x1024, .f32⟩
  | .local _ .vmem, ⟨11, _⟩ => ⟨S64x1024, .f32⟩
  | .local _ .vmem, ⟨12, _⟩ => ⟨S64x1024, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def k1_cond2 (i : grid1.Coords) : BitVec 1 :=
  let arg0 : BitVec 32 := BitVec.ofNat 32 (i 0).val
  let c511_i32 : BitVec 32 := 511#32
  let v28 : BitVec 1 := Scalar.cmpi .eq arg0 c511_i32
  let v29 : BitVec 32 := Scalar.extui v28
  let c0_i32_12 : BitVec 32 := 0#32
  let v30 : BitVec 1 := Scalar.cmpi .ne v29 c0_i32_12
  v30

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S64x512x512 : Shape := ⟨3, ![64, 512, 512]⟩
abbrev S1536x1024 : Shape := ⟨2, ![1536, 1024]⟩
abbrev S1024 : Shape := ⟨1, ![1024]⟩
abbrev S1536x4096 : Shape := ⟨2, ![1536, 4096]⟩
abbrev S4096 : Shape := ⟨1, ![4096]⟩
abbrev S_ : Shape := ⟨0, ![]⟩
abbrev S64x1024 : Shape := ⟨2, ![64, 1024]⟩
abbrev S512x64x512 : Shape := ⟨3, ![512, 64, 512]⟩
abbrev S512x64x1024 : Shape := ⟨3, ![512, 64, 1024]⟩
abbrev S1x64x512 : Shape := ⟨3, ![1, 64, 512]⟩
abbrev S64x512 : Shape := ⟨2, ![64, 512]⟩
abbrev S64x1536 : Shape := ⟨2, ![64, 1536]⟩
abbrev S64x4096 : Shape := ⟨2, ![64, 4096]⟩
abbrev S1x4096 : Shape := ⟨2, ![1, 4096]⟩
abbrev S1x64x1024 : Shape := ⟨3, ![1, 64, 1024]⟩
abbrev S64x512x1024 : Shape := ⟨3, ![64, 512, 1024]⟩

abbrev nBuf : Space → Nat
  | .hbm => 78
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S1536x1024, .f32⟩
  | .hbm, ⟨2, _⟩ => ⟨S1024, .f32⟩
  | .hbm, ⟨3, _⟩ => ⟨S1536x1024, .f32⟩
  | .hbm, ⟨4, _⟩ => ⟨S1024, .f32⟩
  | .hbm, ⟨5, _⟩ => ⟨S1536x1024, .f32⟩
  | .hbm, ⟨6, _⟩ => ⟨S1024, .f32⟩
  | .hbm, ⟨7, _⟩ => ⟨S1536x1024, .f32⟩
  | .hbm, ⟨8, _⟩ => ⟨S1024, .f32⟩
  | .hbm, ⟨9, _⟩ => ⟨S1536x4096, .f32⟩
  | .hbm, ⟨10, _⟩ => ⟨S4096, .f32⟩
  | .hbm, ⟨11, _⟩ => ⟨S_, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S512x64x512, .f32⟩
  | .hbm, ⟨16, _⟩ => ⟨S_, .f32⟩
  | .hbm, ⟨17, _⟩ => ⟨S512x64x1024, .f32⟩
  | .hbm, ⟨18, _⟩ => ⟨S_, .i32⟩
  | .hbm, ⟨19, _⟩ => ⟨S512x64x512, .f32⟩
  | .hbm, ⟨20, _⟩ => ⟨S1536x4096, .f32⟩
  | .hbm, ⟨21, _⟩ => ⟨S4096, .f32⟩
  | .hbm, ⟨22, _⟩ => ⟨S_, .i32⟩
  | .hbm, ⟨23, _⟩ => ⟨S64x1024, .f32⟩
  | .hbm, ⟨24, _⟩ => ⟨S64x1024, .f32⟩
  | .hbm, ⟨25, _⟩ => ⟨S512x64x1024, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x64x512, .f32⟩
  | .hbm, ⟨31, _⟩ => ⟨S64x512, .f32⟩
  | .hbm, ⟨32, _⟩ => ⟨S64x1536, .f32⟩
  | .hbm, ⟨33, _⟩ => ⟨S64x4096, .f32⟩
  | .hbm, ⟨34, _⟩ => ⟨S1x4096, .f32⟩
  | .hbm, ⟨35, _⟩ => ⟨S64x4096, .f32⟩
  | .hbm, ⟨36, _⟩ => ⟨S64x4096, .f32⟩
  | .hbm, ⟨37, _⟩ => ⟨S64x1024, .f32⟩
  | .hbm, ⟨38, _⟩ => ⟨S64x1024, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S_, .f32⟩
  | .hbm, ⟨44, _⟩ => ⟨S64x1024, .f32⟩
  | .hbm, ⟨45, _⟩ => ⟨S64x1024, .f32⟩
  | .hbm, ⟨46, _⟩ => ⟨S_, .f32⟩
  | .hbm, ⟨47, _⟩ => ⟨S64x1024, .f32⟩
  | .hbm, ⟨48, _⟩ => ⟨S64x1024, .f32⟩
  | .hbm, ⟨49, _⟩ => ⟨S64x1024, .f32⟩
  | .hbm, ⟨50, _⟩ => ⟨S64x1024, .f32⟩
  | .hbm, ⟨51, _⟩ => ⟨S_, .f32⟩
  | .hbm, ⟨52, _⟩ => ⟨S64x1024, .f32⟩
  | .hbm, ⟨53, _⟩ => ⟨S64x1024, .f32⟩
  | .hbm, ⟨54, _⟩ => ⟨S_, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S_, .f32⟩
  | .hbm, ⟨64, _⟩ => ⟨S64x1024, .f32⟩
  | .hbm, ⟨65, _⟩ => ⟨S64x1024, .f32⟩
  | .hbm, ⟨66, _⟩ => ⟨S64x1024, .f32⟩
  | .hbm, ⟨67, _⟩ => ⟨S64x1024, .f32⟩
  | .hbm, ⟨68, _⟩ => ⟨S64x1024, .f32⟩
  | .hbm, ⟨69, _⟩ => ⟨S64x1024, .f32⟩
  | .hbm, ⟨70, _⟩ => ⟨S64x1024, .f32⟩
  | .hbm, ⟨71, _⟩ => ⟨S1x64x1024, .f32⟩
  | .hbm, ⟨72, _⟩ => ⟨S_, .i32⟩
  | .hbm, ⟨73, _⟩ => ⟨S_, .i32⟩
  | .hbm, ⟨74, _⟩ => ⟨S512x64x1024, .f32⟩
  | .hbm, ⟨75, _⟩ => ⟨S_, .i32⟩
  | .hbm, ⟨76, _⟩ => ⟨S_, .i32⟩
  | .hbm, ⟨77, _⟩ => ⟨S64x512x1024, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_while0c_c_8 : Ref sig .tc := ⟨.hbm, 26, rfl⟩
abbrev main_while0c_v8 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v8 : Ref sig .tc := ⟨.hbm, 31, rfl⟩
abbrev main_while0b_v9 : Ref sig .tc := ⟨.hbm, 32, rfl⟩
abbrev main_while0b_v10 : Ref sig .tc := ⟨.hbm, 33, rfl⟩
abbrev main_while0b_v11 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_cst_8 : Ref sig .tc := ⟨.hbm, 43, rfl⟩
abbrev main_while0b_v20 : Ref sig .tc := ⟨.hbm, 44, rfl⟩
abbrev main_while0b_v21 : Ref sig .tc := ⟨.hbm, 45, rfl⟩
abbrev main_while0b_cst_9 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_cst_10 : Ref sig .tc := ⟨.hbm, 51, rfl⟩
abbrev main_while0b_v26 : Ref sig .tc := ⟨.hbm, 52, rfl⟩
abbrev main_while0b_v27 : Ref sig .tc := ⟨.hbm, 53, rfl⟩
abbrev main_while0b_cst_11 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_cst_12 : Ref sig .tc := ⟨.hbm, 60, rfl⟩
abbrev main_while0b_v33 : Ref sig .tc := ⟨.hbm, 61, rfl⟩
abbrev main_while0b_v34 : Ref sig .tc := ⟨.hbm, 62, rfl⟩
abbrev main_while0b_cst_13 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_call1_v0 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_v42 : Ref sig .tc := ⟨.hbm, 74, rfl⟩
abbrev main_while0b_c_14 : Ref sig .tc := ⟨.hbm, 75, rfl⟩
abbrev main_while0b_v43 : Ref sig .tc := ⟨.hbm, 76, rfl⟩
abbrev main_v7 : Ref sig .tc := ⟨.hbm, 77, rfl⟩

abbrev nD : Nat := 1
abbrev τ : Topo := Topo.v7x

variable {F : FTy → Type} [FloatOps F]

abbrev main_while0_count : Scf.Loop 32 := ⟨0#32, 512#32, 1#32⟩
-- ==== Proof.KernelRun.lean ====
/-
  The run of the kernel with its RESULTS read. The frame of the program says that the argument arrays end as launched;
  here the same launch is read further: besides the arguments, the three result arrays end holding what the last
  boundary of the program (`W5`, the contents after the last host operation) says they hold.
-/
module

public import proofs.«01_k».proof.Proof.Gen.KernelIdeal.Frame
public import Idealize.ShloMosaic.Lib.StableHlo.Run

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every fair execution of the kernel's program ends, without a fault, with the three results holding the contents of
    the last boundary and the nine arguments holding what they were launched with. -/
theorem run : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_v17_1) = W5 m ρ c (Proc.devRef .tc main_v17_1)
      ∧ r.2.mem ((c.tc : Thread nD τ).loc main_v17_2) = W5 m ρ c (Proc.devRef .tc main_v17_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v18 (by decide)), h c _ (mem_uc main_v17_1 (by decide)), h c _ (mem_uc main_v17_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.Proof.KernelRun

end
-- ==== Proof.Cell.lean ====
/-
  What one grid point of the recurrent kernel leaves in its output buffers, and what a run of points leaves: the cell
  state is carried from point to point in the buffer of the second result, started at zero by the first point.
-/
module

public import proofs.«01_k».proof.Proof.KernelRun
public import Idealize.ShloMosaic.Lib.Pipeline.ValueKit
public import Idealize.ShloMosaic.Lib.Tactic

@[expose] public section

set_option maxRecDepth 16384

noncomputable section

namespace Cert.Proof.Cell

open Idealize.ShloMosaic Idealize.ShloMosaic.TcCoe Idealize.ShloMosaic.Tactic
open Idealize.SL Idealize.SL.Sem
open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The first point, which starts from a zero cell state, leaves in the buffer of window 2 the hidden state, as a block of one time step. -/
theorem out_A_2 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : cond1_0 i) (hc1 : ¬cond1_1 i) (x0 : Vec F S1x64x4096 .f32) (x1 : Vec F S1024x4096 .bf16) :
    out1_A_2 c i a1 h1 a2 h2 a3 h3 a4 h4 a5 h5 hc0 hc1 x0 x1 = k1_pay6 (k1_pay1 (F := F)) x0 x1 := by
  unfold out1_A_2
  rw [View.read_writes_eq_canon _ _ _ (cover1_A_2 c i a1 h1 a2 h2 a3 h3 a4 h4 a5 h5 hc0 hc1 x0 x1)]
  unfold kernelRun1_A
  dsimp only
  sl_unfold_words
  rw [View.canon_unit_zero (S := S1x64x1024) off3, View.readCov_unit_zero (S := S64x1024) _ off2]
  simp only [View.readAt_eq_ld, h1.read_unread, h2.read_unread, View.ld_unit_zero (S := S1x64x4096) off3,
    View.ld_unit_zero (S := S1024x4096) off2]

/-- The first point, which starts from a zero cell state, leaves in the buffer of window 3 the new cell state. -/
theorem out_A_3 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : cond1_0 i) (hc1 : ¬cond1_1 i) (x0 : Vec F S1x64x4096 .f32) (x1 : Vec F S1024x4096 .bf16) :
    out1_A_3 c i a1 h1 a2 h2 a3 h3 a4 h4 a5 h5 hc0 hc1 x0 x1 = k1_pay4 (k1_pay1 (F := F)) x0 x1 := by
  unfold out1_A_3
  rw [View.read_writes_eq_canon _ _ _ (cover1_A_3 c i a1 h1 a2 h2 a3 h3 a4 h4 a5 h5 hc0 hc1 x0 x1)]
  unfold kernelRun1_A
  dsimp only
  sl_unfold_words
  rw [View.canon_cons_unit_zero (S := S64x1024) off2, View.readCov_unit_zero (S := S64x1024) _ off2]
  simp only [View.readAt_eq_ld, h1.read_unread, h2.read_unread, View.ld_unit_zero (S := S1x64x4096) off3,
    View.ld_unit_zero (S := S1024x4096) off2]

/-- A middle point, which finds the cell state `xo`, leaves in the buffer of window 2 the hidden state, as a block of one time step. -/
theorem out_B_2 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : ¬cond1_0 i) (hc1 : ¬cond1_1 i) (x0 : Vec F S1x64x4096 .f32) (x1 : Vec F S1024x4096 .bf16) (xo : Vec F S64x1024 .f32) :
    out1_B_2 c i a1 h1 a2 h2 a3 h3 a4 h4 a5 h5 hc0 hc1 x0 x1 xo = k1_pay6 xo x0 x1 := by
  unfold out1_B_2
  rw [View.read_writes_eq_canon _ _ _ (cover1_B_2 c i a1 h1 a2 h2 a3 h3 a4 h4 a5 h5 hc0 hc1 x0 x1 xo)]
  unfold kernelRun1_B
  dsimp only
  rw [View.canon_unit_zero (S := S1x64x1024) off3]
  simp only [View.readAt_eq_ld, h1.read_unread, h2.read_unread, h4.read_unread, View.ld_unit_zero (S := S1x64x4096) off3,
    View.ld_unit_zero (S := S1024x4096) off2, View.ld_unit_zero (S := S64x1024) off2]

/-- A middle point, which finds the cell state `xo`, leaves in the buffer of window 3 the new cell state. -/
theorem out_B_3 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : ¬cond1_0 i) (hc1 : ¬cond1_1 i) (x0 : Vec F S1x64x4096 .f32) (x1 : Vec F S1024x4096 .bf16) (xo : Vec F S64x1024 .f32) :
    out1_B_3 c i a1 h1 a2 h2 a3 h3 a4 h4 a5 h5 hc0 hc1 x0 x1 xo = k1_pay4 xo x0 x1 := by
  unfold out1_B_3
  rw [View.read_writes_eq_canon _ _ _ (cover1_B_3 c i a1 h1 a2 h2 a3 h3 a4 h4 a5 h5 hc0 hc1 x0 x1 xo)]
  unfold kernelRun1_B
  dsimp only
  rw [View.canon_unit_zero (S := S64x1024) off2]
  simp only [View.readAt_eq_ld, h1.read_unread, h2.read_unread, h4.read_unread, View.ld_unit_zero (S := S1x64x4096) off3,
    View.ld_unit_zero (S := S1024x4096) off2, View.ld_unit_zero (S := S64x1024) off2]

/-- The last point, which finds the cell state `xo`, leaves in the buffer of window 2 the hidden state, as a block of one time step. -/
theorem out_C_2 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : ¬cond1_0 i) (hc1 : cond1_1 i) (x0 : Vec F S1x64x4096 .f32) (x1 : Vec F S1024x4096 .bf16) (xo : Vec F S64x1024 .f32) :
    out1_C_2 c i a1 h1 a2 h2 a3 h3 a4 h4 a5 h5 hc0 hc1 x0 x1 xo = k1_pay6 xo x0 x1 := by
  unfold out1_C_2
  rw [View.read_writes_eq_canon _ _ _ (cover1_C_2 c i a1 h1 a2 h2 a3 h3 a4 h4 a5 h5 hc0 hc1 x0 x1 xo)]
  unfold kernelRun1_C
  dsimp only
  rw [View.canon_unit_zero (S := S1x64x1024) off3]
  simp only [View.readAt_eq_ld, h1.read_unread, h2.read_unread, h4.read_unread, View.ld_unit_zero (S := S1x64x4096) off3,
    View.ld_unit_zero (S := S1024x4096) off2, View.ld_unit_zero (S := S64x1024) off2]

/-- The last point, which finds the cell state `xo`, leaves in the buffer of window 3 the new cell state. -/
theorem out_C_3 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : ¬cond1_0 i) (hc1 : cond1_1 i) (x0 : Vec F S1x64x4096 .f32) (x1 : Vec F S1024x4096 .bf16) (xo : Vec F S64x1024 .f32) :
    out1_C_3 c i a1 h1 a2 h2 a3 h3 a4 h4 a5 h5 hc0 hc1 x0 x1 xo = k1_pay4 xo x0 x1 := by
  unfold out1_C_3
  rw [View.read_writes_eq_canon _ _ _ (cover1_C_3 c i a1 h1 a2 h2 a3 h3 a4 h4 a5 h5 hc0 hc1 x0 x1 xo)]
  unfold kernelRun1_C
  dsimp only
  rw [View.canon_unit_zero (S := S64x1024) off2]
  simp only [View.readAt_eq_ld, h1.read_unread, h2.read_unread, h4.read_unread, View.ld_unit_zero (S := S1x64x4096) off3,
    View.ld_unit_zero (S := S1024x4096) off2, View.ld_unit_zero (S := S64x1024) off2]

/-- The last point, which finds the cell state `xo`, leaves in the buffer of window 4 the hidden state. -/
theorem out_C_4 (c : Dev nD) (i : grid1.Coords) (a1 : Memref sig .tc .vmem S1x64x4096 .f32) (h1 : a1.IsWhole)
    (a2 : Memref sig .tc .vmem S1024x4096 .bf16) (h2 : a2.IsWhole) (a3 : Memref sig .tc .vmem S1x64x1024 .f32) (h3 : a3.IsWhole)
    (a4 : Memref sig .tc .vmem S64x1024 .f32) (h4 : a4.IsWhole) (a5 : Memref sig .tc .vmem S64x1024 .f32) (h5 : a5.IsWhole)
    (hc0 : ¬cond1_0 i) (hc1 : cond1_1 i) (x0 : Vec F S1x64x4096 .f32) (x1 : Vec F S1024x4096 .bf16) (xo : Vec F S64x1024 .f32) :
    out1_C_4 c i a1 h1 a2 h2 a3 h3 a4 h4 a5 h5 hc0 hc1 x0 x1 xo = k1_pay5 xo x0 x1 := by
  unfold out1_C_4
  rw [View.read_writes_eq_canon _ _ _ (cover1_C_4 c i a1 h1 a2 h2 a3 h3 a4 h4 a5 h5 hc0 hc1 x0 x1 xo)]
  unfold kernelRun1_C
  dsimp only
  rw [View.canon_unit_zero (S := S64x1024) off2]
  simp only [View.readAt_eq_ld, h1.read_unread, h2.read_unread, h4.read_unread, View.ld_unit_zero (S := S1x64x4096) off3,
    View.ld_unit_zero (S := S1024x4096) off2, View.ld_unit_zero (S := S64x1024) off2]

variable (V : (c : Dev nD) → (b : Ref sig .tc) → Buf (Elt F) ((c : Thread nD τ).loc b))

/-- The cell state before point `n`: zero before the first, afterwards the update of the state before by the point's
    block of input projections and the recurrent weights. -/
def cell (c : Dev nD) : ℕ → Vec F S64x1024 .f32
  | 0 => k1_pay1 (F := F)
  | n + 1 => if h : n < cfg1.N then k1_pay4 (cell c n) (iblk1 V c 0 ⟨n, h⟩) (iblk1 V c 1 ⟨n, h⟩) else cell c n

theorem cell_succ (c : Dev nD) (t : Fin cfg1.N) :
    cell V c (t.val + 1) = k1_pay4 (cell V c t.val) (iblk1 V c 0 t) (iblk1 V c 1 t) := by
  rw [cell, dif_pos t.isLt]

/-- After point `n` the buffer of the second result holds the cell state before point `n + 1`. -/
theorem outs_cell (c : Dev nD) : ∀ (n : ℕ) (h : n < cfg1.N), (outsAt1 V c n h).2.1 = cell V c (n + 1)
  | 0, h => by
    rw [cell_succ V c ⟨0, h⟩, outsAt1_A V c ⟨0, h⟩ rfl (by dsimp only; omega)]
    dsimp only
    rw [out_A_3]; rfl
  | n + 1, h => by
    have hN : cfg1.N = 512 := N_1
    have hA : ¬(⟨n + 1, h⟩ : Fin cfg1.N).val % 512 = 0 := by dsimp only; omega
    rw [cell_succ V c ⟨n + 1, h⟩]
    by_cases hl : (⟨n + 1, h⟩ : Fin cfg1.N).val % 512 = 511
    · rw [outsAt1_C V c ⟨n + 1, h⟩ hA hl]
      dsimp only
      rw [out_C_3]
      exact congrArg (fun z => k1_pay4 z _ _) (outs_cell c n (Nat.lt_of_succ_lt h))
    · rw [outsAt1_B V c ⟨n + 1, h⟩ hA hl]
      dsimp only
      rw [out_B_3]
      exact congrArg (fun z => k1_pay4 z _ _) (outs_cell c n (Nat.lt_of_succ_lt h))

/-- After point `t` the buffer of the first result holds the hidden state of that time step. -/
theorem outs_hidden (c : Dev nD) (t : Fin cfg1.N) :
    (outsAt1 V c t.val t.isLt).1 = k1_pay6 (cell V c t.val) (iblk1 V c 0 t) (iblk1 V c 1 t) := by
  have hN : cfg1.N = 512 := N_1
  obtain ⟨n, h⟩ := t
  cases n with
  | zero =>
    rw [outsAt1_A V c ⟨0, h⟩ rfl (by dsimp only; omega)]
    dsimp only
    rw [out_A_2]; rfl
  | succ n =>
    have hA : ¬(⟨n + 1, h⟩ : Fin cfg1.N).val % 512 = 0 := by dsimp only; omega
    by_cases hl : (⟨n + 1, h⟩ : Fin cfg1.N).val % 512 = 511
    · rw [outsAt1_C V c ⟨n + 1, h⟩ hA hl]
      dsimp only
      rw [out_C_2]
      exact congrArg (fun z => k1_pay6 z _ _) (outs_cell V c n (Nat.lt_of_succ_lt h))
    · rw [outsAt1_B V c ⟨n + 1, h⟩ hA hl]
      dsimp only
      rw [out_B_2]
      exact congrArg (fun z => k1_pay6 z _ _) (outs_cell V c n (Nat.lt_of_succ_lt h))

/-- After the last point the buffer of the third result holds the hidden state of the last time step. -/
theorem outs_last (c : Dev nD) (t : Fin cfg1.N) (ht : t.val % 512 = 511) :
    (outsAt1 V c t.val t.isLt).2.2 = k1_pay5 (cell V c t.val) (iblk1 V c 0 t) (iblk1 V c 1 t) := by
  have hN : cfg1.N = 512 := N_1
  obtain ⟨n, h⟩ := t
  cases n with
  | zero => exact absurd ht (by dsimp only; omega)
  | succ n =>
    rw [outsAt1_C V c ⟨n + 1, h⟩ (by dsimp only at ht ⊢; omega) ht]
    dsimp only
    rw [out_C_4]
    exact congrArg (fun z => k1_pay5 z _ _) (outs_cell V c n (Nat.lt_of_succ_lt h))

end Cert.Proof.Cell

end
-- ==== Proof.Project.lean ====
/-
  The first kernel region: what its result array ends holding. Each of its 128 points projects 256 rows of the input
  (one row per time step and batch element) by the input part of the weights and adds the bias.
-/
module

public import proofs.«01_k».proof.Proof.Cell
public import Idealize.ShloMosaic.Lib.Pointwise
public import Idealize.ShloMosaic.Lib.Pipeline.Covers

@[expose] public section

set_option maxRecDepth 16384

noncomputable section

namespace Cert.Proof.Project

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b))

/-- The block indices of the windows at a point: the rows move with the point, the weights and the bias stay. -/
theorem idx : ∀ t : Fin grid0.N, win0_0.index t = ![t.val, 0] ∧ win0_1.index t = ![0, 0] ∧ win0_2.index t = ![0, 0]
    ∧ win0_3.index t = ![t.val, 0] := by decide +kernel

/-- The projection of the rows `x` by the weights `w`, with the bias `b` added. -/
def proj (x : Vec Ideal S32768x512 .f32) (w : Vec Ideal S512x4096 .f32) (b : Vec Ideal S1x4096 .f32) :
    Vec Ideal S32768x4096 .f32 :=
  fun i => (∑ e : Fin 512, (x (ix2 (i 0) e) : EReal) * w (ix2 e (i 1))) + b (ix2 0 (i 1))

/-- One point: the stored block at an index is the projection of the block's row. -/
theorem point (x : Vec Ideal S256x512 .f32) (w : Vec Ideal S512x4096 .f32) (b : Vec Ideal S1x4096 .f32) (y : S256x4096.Idx) :
    k0_pay1 (F := Ideal) x w b y = ((∑ e : Fin 512, (x (ix2 (y 0) e) : EReal) * w (ix2 e (y 1))) + b (ix2 0 (y 1)) : EReal) := by
  pointwise [k0_pay1]

/-- The first region's result array: the projection of its first operand by its second, with the third added. -/
theorem arr (c : Dev nD) :
    (dat0 V c).arrAt 3 cfg0.N = proj (V c main_v14) (V c main_v4) (V c main_v12) := by
  refine (dat0 V c).arrAt_eq_of_covers 3 _ (by decide +kernel) fun t hf y => ?_
  blk_simp
  rw [after0_3]; frame_out
  rw [point]
  unfold proj iblk0
  obtain ⟨e0, e1, e2, e3⟩ := idx t
  blk_point [idx t]

end Cert.Proof.Project

end
-- ==== Proof.Recur.lean ====
/-
  The second kernel region: what its three result arrays end holding, in terms of the sequence of cell states its
  512 points go through (one point per time step).
-/
module

public import proofs.«01_k».proof.Proof.Project

@[expose] public section

set_option maxRecDepth 16384

noncomputable section

namespace Cert.Proof.Recur

open Idealize.ShloMosaic Idealize.ShloMosaic.TcCoe
open Idealize.SL Idealize.SL.Sem
open Cert.KernelIdeal Cert.KernelIdeal.Gen
open Cert.Proof.Cell

variable (V : (c : Dev nD) → (b : Ref sig .tc) → Buf (Elt Ideal) ((c : Thread nD τ).loc b))

/-- The block indices of the windows at a point: the time step moves with the point, everything else stays. -/
theorem idx : ∀ t : Fin grid1.N, win1_0.index t = ![t.val, 0, 0] ∧ win1_1.index t = ![0, 0]
    ∧ win1_2.index t = ![t.val, 0, 0] ∧ win1_3.index t = ![0, 0] ∧ win1_4.index t = ![0, 0] := by decide +kernel

/-- Time step `t` of the projected inputs, as the block of one step the body reads. -/
def step (g : Vec Ideal S512x64x4096 .f32) (t : Fin 512) : Vec Ideal S1x64x4096 .f32 := fun y => g (ix3 t (y 1) (y 2))

/-- A point as a time step. -/
def time (t : Fin cfg1.N) : Fin 512 := ⟨t.val, t.isLt.trans_eq N_1⟩

/-- The first operand's block at a point is that time step of the operand. -/
theorem block_step (c : Dev nD) (t : Fin cfg1.N) :
    (iblk1 V c 0 t : Vec Ideal S1x64x4096 .f32) = step (V c main_v16) (time t) := by
  funext y
  unfold step iblk1 time
  blk_ext [idx t]

/-- The second operand's block at every point is the operand. -/
theorem block_weights (c : Dev nD) (t : Fin cfg1.N) :
    (iblk1 V c 1 t : Vec Ideal S1024x4096 .bf16) = V c main_v10 := by
  funext y
  unfold iblk1
  blk_ext [idx t]

/-- The cell states that the projected inputs `g` and the recurrent weights `w` lead through: zero at the start, one
    update per time step. -/
def cells (g : Vec Ideal S512x64x4096 .f32) (w : Vec Ideal S1024x4096 .bf16) : ℕ → Vec Ideal S64x1024 .f32
  | 0 => k1_pay1 (F := Ideal)
  | n + 1 => if h : n < 512 then k1_pay4 (F := Ideal) (cells g w n) (step g ⟨n, h⟩) w else cells g w n

/-- The update at a time step. -/
theorem cells_succ (g : Vec Ideal S512x64x4096 .f32) (w : Vec Ideal S1024x4096 .bf16) (t : Fin 512) :
    cells g w (t.val + 1) = k1_pay4 (F := Ideal) (cells g w t.val) (step g t) w := by
  rw [cells, dif_pos t.isLt]

/-- The states the points go through are those. -/
theorem cell_eq (c : Dev nD) : ∀ n : ℕ, n ≤ 512 → cell V c n = cells (V c main_v16) (V c main_v10) n
  | 0, _ => rfl
  | n + 1, h => by
    have hN : cfg1.N = 512 := N_1
    rw [cell_succ V c ⟨n, by omega⟩, block_step, block_weights, cells_succ _ _ ⟨n, by omega⟩]
    exact congrArg (fun z => k1_pay4 (F := Ideal) z _ _) (cell_eq c n (by omega))

/-- The hidden state at time step `t`. -/
def hidden (g : Vec Ideal S512x64x4096 .f32) (w : Vec Ideal S1024x4096 .bf16) (t : Fin 512) : Vec Ideal S64x1024 .f32 :=
  k1_pay5 (F := Ideal) (cells g w t.val) (step g t) w

/-- The first result: the hidden state of every time step. -/
theorem arr_hidden (c : Dev nD) : (dat1 V c).arrAt 2 cfg1.N
    = (fun i => hidden (V c main_v16) (V c main_v10) (i 0) (ix2 (i 1) (i 2)) : Vec Ideal S512x64x1024 .f32) := by
  refine (dat1 V c).arrAt_eq_of_covers 2 _ (by decide +kernel) fun t hf y => ?_
  blk_simp
  rw [after1_2, outs_hidden, block_step, block_weights, cell_eq V c t.val (by have := t.isLt.trans_eq N_1; omega)]
  have e : ((cfg1.win 2).blk t).view.emb y = (ix3 (time t) (y 1) (y 2) : S512x64x1024.Idx) := by
    unfold time
    blk_ext [idx t]
  rw [e]
  unfold k1_pay6 hidden time
  pointwise

/-- The last point. -/
def last : Fin cfg1.N := ⟨511, Nat.lt_of_lt_of_eq (by decide) N_1.symm⟩

/-- The second result: the cell state after the last time step. -/
theorem arr_cell (c : Dev nD) : (dat1 V c).arrAt 3 cfg1.N
    = (cells (V c main_v16) (V c main_v10) 512 : Vec Ideal S64x1024 .f32) := by
  refine (dat1 V c).arrAt_eq_of_after_last 3 last (by decide +kernel) _ fun j => ?_
  blk_simp
  rw [after1_3, outs_cell, cell_eq V c _ (by decide)]
  exact congrFun (congrArg (cells _ _) (show last.val + 1 = 512 from rfl)) j

/-- The third result: the hidden state of the last time step. -/
theorem arr_last (c : Dev nD) : (dat1 V c).arrAt 4 cfg1.N
    = (hidden (V c main_v16) (V c main_v10) 511 : Vec Ideal S64x1024 .f32) := by
  refine (dat1 V c).arrAt_eq_of_after_last 4 last (by decide +kernel) _ fun j => ?_
  blk_simp
  rw [after1_4, outs_last _ _ _ (by decide), block_step, block_weights, cell_eq V c _ (by decide)]
  exact congrFun (congrArg (hidden _ _) (show time last = 511 from rfl)) j

end Cert.Proof.Recur

end
-- ==== Proof.Model.lean ====
/-
  The mathematics both programs are read against, over the extended reals: a recurrent cell run over 512 time steps.
  The four gates of a step are one affine map of the step's input and the state before; the state is kept, scaled by the
  first gate, and added to by the second and third; the hidden state is the squashed new state under the fourth gate.
-/
module

public import proofs.«01_k».proof.Proof.Recur

@[expose] public section

set_option maxRecDepth 16384

noncomputable section

namespace Cert.Proof.Model

open Idealize.ShloMosaic
open Cert.KernelIdeal

/-- The weights of the four gates side by side. -/
def joined (w0 w1 w2 w3 : Vec Ideal S1536x1024 .f32) : Vec Ideal ⟨2, ![1536, 4096]⟩ .f32 := fun y =>
  if h0 : (y 1).val < 1024 then w0 (ix2 (y 0) ⟨(y 1).val, h0⟩)
  else if h1 : (y 1).val - 1024 < 1024 then w1 (ix2 (y 0) ⟨(y 1).val - 1024, h1⟩)
  else if h2 : (y 1).val - 1024 - 1024 < 1024 then w2 (ix2 (y 0) ⟨(y 1).val - 1024 - 1024, h2⟩)
  else w3 (ix2 (y 0) ⟨(y 1).val - 1024 - 1024 - 1024, by have h : (y 1).val < 4096 := (y 1).isLt; omega⟩)

/-- The biases of the four gates one after the other. -/
def joinedBias (b0 b1 b2 b3 : Vec Ideal S1024 .f32) : Vec Ideal S4096 .f32 := fun y =>
  if h0 : (y 0).val < 1024 then b0 (ix1 ⟨(y 0).val, h0⟩)
  else if h1 : (y 0).val - 1024 < 1024 then b1 (ix1 ⟨(y 0).val - 1024, h1⟩)
  else if h2 : (y 0).val - 1024 - 1024 < 1024 then b2 (ix1 ⟨(y 0).val - 1024 - 1024, h2⟩)
  else b3 (ix1 ⟨(y 0).val - 1024 - 1024 - 1024, by have h : (y 0).val < 4096 := (y 0).isLt; omega⟩)

/-- The pre-activations of the four gates at time step `t`, gate by gate along `j`: the input's and the state's products
    with their parts of the joined weights `w`, summed, and the joined bias `b`. -/
def gates (x : Vec Ideal S64x512x512 .f32) (w : Vec Ideal ⟨2, ![1536, 4096]⟩ .f32) (b : Vec Ideal S4096 .f32) (t : Fin 512)
    (s : Vec Ideal S64x1024 .f32) (i : Fin 64) (j : Fin 4096) : EReal :=
  ((∑ e : Fin 512, (x (ix3 i t e) : EReal) * w (ix2 ⟨e.val, by omega⟩ j))
    + ∑ k : Fin 1024, (s (ix2 i k) : EReal) * w (ix2 ⟨512 + k.val, by omega⟩ j)) + b (ix1 j)

/-- The state after a step whose gates have the pre-activations `g`, from the state `s` before. -/
def next (g : Fin 64 → Fin 4096 → EReal) (s : Vec Ideal S64x1024 .f32) : Vec Ideal S64x1024 .f32 := fun y =>
  (Ideal.logistic (g (y 0) ⟨(y 1).val, by have h : (y 1).val < 1024 := (y 1).isLt; omega⟩) * s y
    + Ideal.logistic (g (y 0) ⟨1024 + (y 1).val, by have h : (y 1).val < 1024 := (y 1).isLt; omega⟩)
      * Ideal.tanh (g (y 0) ⟨2048 + (y 1).val, by have h : (y 1).val < 1024 := (y 1).isLt; omega⟩) : EReal)

/-- The hidden state of a step whose gates have the pre-activations `g` and whose new state is `s`. -/
def emit (g : Fin 64 → Fin 4096 → EReal) (s : Vec Ideal S64x1024 .f32) : Vec Ideal S64x1024 .f32 := fun y =>
  (Ideal.tanh (s y) * Ideal.logistic (g (y 0) ⟨3072 + (y 1).val, by have h : (y 1).val < 1024 := (y 1).isLt; omega⟩) : EReal)

/-- The state before time step `n`: zero before the first. -/
def state (x : Vec Ideal S64x512x512 .f32) (w : Vec Ideal ⟨2, ![1536, 4096]⟩ .f32) (b : Vec Ideal S4096 .f32) :
    ℕ → Vec Ideal S64x1024 .f32
  | 0 => fun _ => (0 : EReal)
  | n + 1 => if h : n < 512 then next (gates x w b ⟨n, h⟩ (state x w b n)) (state x w b n) else state x w b n

/-- The state after time step `t`. -/
theorem state_succ (x : Vec Ideal S64x512x512 .f32) (w : Vec Ideal ⟨2, ![1536, 4096]⟩ .f32) (b : Vec Ideal S4096 .f32)
    (t : Fin 512) : state x w b (t.val + 1) = next (gates x w b t (state x w b t.val)) (state x w b t.val) := by
  rw [state, dif_pos t.isLt]

/-- The hidden state of time step `t`. -/
def hid (x : Vec Ideal S64x512x512 .f32) (w : Vec Ideal ⟨2, ![1536, 4096]⟩ .f32) (b : Vec Ideal S4096 .f32) (t : Fin 512) :
    Vec Ideal S64x1024 .f32 :=
  emit (gates x w b t (state x w b t.val)) (state x w b (t.val + 1))

end Cert.Proof.Model

end
-- ==== Proof.KernelStep.lean ====
/-
  The kernel's recurrence is the model's: where its projected inputs hold the input products plus the bias, and its
  recurrent weights the lower part of the joined weights, its states and hidden states are the model's.
-/
module

public import proofs.«01_k».proof.Proof.Model

@[expose] public section

set_option maxRecDepth 16384

noncomputable section

namespace Cert.Proof.KernelStep

open Idealize.ShloMosaic Idealize.ShloMosaic.TcCoe
open Cert.KernelIdeal Cert.KernelIdeal.Gen
open Cert.Proof.Recur Cert.Proof.Model

variable (x : Vec Ideal S64x512x512 .f32) (w : Vec Ideal ⟨2, ![1536, 4096]⟩ .f32) (b : Vec Ideal S4096 .f32)
variable (g : Vec Ideal S512x64x4096 .f32) (u : Vec Ideal S1024x4096 .bf16)

/-- The projected inputs hold the input products plus the bias. -/
def Projects : Prop := ∀ (t : Fin 512) (i : Fin 64) (j : Fin 4096),
  g (ix3 t i j) = ((∑ e : Fin 512, (x (ix3 i t e) : EReal) * w (ix2 ⟨e.val, by omega⟩ j)) + b (ix1 j) : EReal)

/-- The recurrent weights are the lower part of the joined weights. -/
def Lower : Prop := ∀ (k : Fin 1024) (j : Fin 4096), u (ix2 k j) = w (ix2 ⟨512 + k.val, by omega⟩ j)

/-- Adding the bias to the input products first, or to the whole sum last, gives the same gates. -/
theorem gates_eq (hg : Projects x w b g) (hu : Lower w u) (t : Fin 512) (s : Vec Ideal S64x1024 .f32) (i : Fin 64) (j : Fin 4096) :
    k1_pay3 (F := Ideal) s (step g t) u (ix2 i j) = gates x w b t s i j := by
  pointwise [k1_pay3, k1_pay2]
  unfold gates
  refine Eq.trans (congrArg₂ (fun p q : EReal => p + q) (hg t i j)
    (Finset.sum_congr rfl fun k _ => congrArg (fun q : EReal => (s (ix2 i k) : EReal) * q) (hu k j))) ?_
  exact add_right_comm _ _ _

/-- One update of the kernel's state is the model's. -/
theorem cell_eq (hg : Projects x w b g) (hu : Lower w u) (t : Fin 512) (s : Vec Ideal S64x1024 .f32) :
    k1_pay4 (F := Ideal) s (step g t) u = next (gates x w b t s) s := by
  funext y
  idx_vars y
  unfold next
  have key := gates_eq x w b g u hg hu t s
  generalize hk : k1_pay3 (F := Ideal) s (step g t) u = G at key ⊢
  pointwise [k1_pay4, k1_pay2, hk, key]

/-- One hidden state of the kernel is the model's. -/
theorem hidden_eq (hg : Projects x w b g) (hu : Lower w u) (t : Fin 512) (s : Vec Ideal S64x1024 .f32) :
    k1_pay5 (F := Ideal) s (step g t) u = emit (gates x w b t s) (next (gates x w b t s) s) := by
  rw [← cell_eq x w b g u hg hu]
  funext y
  idx_vars y
  unfold emit
  have key := gates_eq x w b g u hg hu t s
  generalize hk : k1_pay3 (F := Ideal) s (step g t) u = G at key ⊢
  generalize hc : k1_pay4 (F := Ideal) s (step g t) u = C
  pointwise [k1_pay5, hk, hc, key]

/-- The kernel's states are the model's. -/
theorem cells_eq (hg : Projects x w b g) (hu : Lower w u) : ∀ n : ℕ, n ≤ 512 → cells g u n = state x w b n
  | 0, _ => by
    funext y
    unfold cells state
    pointwise [k1_pay1]
  | n + 1, h => by
    rw [cells_succ g u ⟨n, by omega⟩, state_succ x w b ⟨n, by omega⟩, cell_eq x w b g u hg hu]
    dsimp only
    rw [cells_eq hg hu n (by omega)]

/-- The kernel's hidden states are the model's. -/
theorem hid_eq (hg : Projects x w b g) (hu : Lower w u) (t : Fin 512) : Recur.hidden g u t = hid x w b t := by
  unfold Recur.hidden hid
  rw [hidden_eq x w b g u hg hu, cells_eq x w b g u hg hu _ (by omega), state_succ]

end Cert.Proof.KernelStep

end
-- ==== Proof.KernelHost.lean ====
/-
  The kernel's host operations around its two regions, read at an index: the arrays the regions find, in terms of the
  launch memory, and so the three results in terms of the arguments.
-/
module

public import proofs.«01_k».proof.Proof.KernelStep
public import Idealize.ShloMosaic.Lib.StableHlo.ReadAt
public import Idealize.ShloMosaic.Lib.StableHlo.Run

@[expose] public section

set_option maxRecDepth 16384

noncomputable section

namespace Cert.Proof.KernelHost

open Idealize.ShloMosaic Idealize.ShloMosaic.TcCoe
open Idealize.SL Idealize.SL.Sem
open Cert.KernelIdeal Cert.KernelIdeal.Gen
open Cert.Proof.Model Cert.Proof.KernelStep

variable (m : (ℓ : Loc nD τ sig) → Buf (Elt Ideal) ℓ) (ρ : Dev nD → PrngReg)

/-- The launch arguments, read as arrays. -/
abbrev X (c : Dev nD) : Vec Ideal S64x512x512 .f32 := m ((c.tc : Thread nD τ).loc main_arg0)
/-- The joined weights of the launch arguments. -/
abbrev Wj (c : Dev nD) : Vec Ideal ⟨2, ![1536, 4096]⟩ .f32 :=
  joined (m ((c.tc : Thread nD τ).loc main_arg1)) (m ((c.tc : Thread nD τ).loc main_arg3))
    (m ((c.tc : Thread nD τ).loc main_arg5)) (m ((c.tc : Thread nD τ).loc main_arg7))
/-- The joined biases of the launch arguments. -/
abbrev Bj (c : Dev nD) : Vec Ideal S4096 .f32 :=
  joinedBias (m ((c.tc : Thread nD τ).loc main_arg2)) (m ((c.tc : Thread nD τ).loc main_arg4))
    (m ((c.tc : Thread nD τ).loc main_arg6)) (m ((c.tc : Thread nD τ).loc main_arg8))

/-- The first region's weights are the upper part of the joined weights. -/
theorem v4_at (c : Dev nD) (e : Fin 512) (j : Fin 4096) : (V1 m ρ c main_v4 : Vec Ideal S512x4096 .f32) (ix2 e j)
    = Wj m c (ix2 ⟨e.val, by omega⟩ j) := by
  unfold_abbrev_sides
  after_reads_at
  unfold joined
  refine dite_congr rfl (fun h => ?_) fun h => dite_congr rfl (fun h' => ?_) fun h' => dite_congr rfl (fun h'' => ?_) fun h'' => ?_
  all_goals after_reads_at

/-- The second region's weights are the lower part of the joined weights. -/
theorem v10_at (c : Dev nD) (k : Fin 1024) (j : Fin 4096) : (V1 m ρ c main_v10 : Vec Ideal S1024x4096 .bf16) (ix2 k j)
    = Wj m c (ix2 ⟨512 + k.val, by omega⟩ j) := by
  unfold_abbrev_sides
  after_reads_at
  unfold joined
  refine dite_congr rfl (fun h => ?_) fun h => dite_congr rfl (fun h' => ?_) fun h' => dite_congr rfl (fun h'' => ?_) fun h'' => ?_
  all_goals after_reads_at

/-- The first region's bias is the joined bias as a row. -/
theorem v12_at (c : Dev nD) (j : Fin 4096) : (V1 m ρ c main_v12 : Vec Ideal S1x4096 .f32) (ix2 0 j) = Bj m c (ix1 j) := by
  unfold_abbrev_sides
  after_reads_at
  unfold joinedBias
  refine dite_congr rfl (fun h => ?_) fun h => dite_congr rfl (fun h' => ?_) fun h' => dite_congr rfl (fun h'' => ?_) fun h'' => ?_
  all_goals after_reads_at

/-- Row `64 t + i` of the first region's input is the input of batch element `i` at time step `t`. -/
theorem v14_at (c : Dev nD) (r : Fin 32768) (e : Fin 512) : (V1 m ρ c main_v14 : Vec Ideal S32768x512 .f32) (ix2 r e)
    = X m c (ix3 ⟨r.val % 64, by omega⟩ ⟨r.val / 64, by omega⟩ e) := by
  unfold_abbrev_sides
  after_reads_at

/-- The second region's input at time step `t` and batch element `i` is row `64 t + i` of the first region's result. -/
theorem v16_at (c : Dev nD) (t : Fin 512) (i : Fin 64) (j : Fin 4096) :
    (V3 m ρ c main_v16 : Vec Ideal S512x64x4096 .f32) (ix3 t i j)
      = (W2 m ρ c (Proc.devRef .tc main_v15) : Vec Ideal S32768x4096 .f32) (ix2 ⟨t.val * 64 + i.val, by omega⟩ j) := by
  unfold_abbrev_sides
  after_reads_at

/-- The second region finds the input products plus the bias. -/
theorem projects (c : Dev nD) : Projects (X m c) (Wj m c) (Bj m c) (V3 m ρ c main_v16) := by
  intro t i j
  refine (v16_at m ρ c t i j).trans ?_
  rw [show (W2 m ρ c (Proc.devRef .tc main_v15) : Vec Ideal S32768x4096 .f32)
      = Project.proj (V1 m ρ c main_v14) (V1 m ρ c main_v4) (V1 m ρ c main_v12) from
    (W2_arr m ρ c 3).trans (Project.arr (V1 m ρ) c)]
  refine congrArg₂ (fun p q : EReal => p + q) (Finset.sum_congr rfl fun e _ => congrArg₂ (fun p q : EReal => p * q) ?_ ?_) ?_
  · refine (v14_at m ρ c _ e).trans (congrArg (X m c) ?_)
    have h1 : (t.val * 64 + i.val) % 64 = i.val := by omega
    have h2 : (t.val * 64 + i.val) / 64 = t.val := by omega
    funext a
    apply Fin.ext
    match a with
    | ⟨0, _⟩ => exact h1
    | ⟨1, _⟩ => exact h2
    | ⟨2, _⟩ => rfl
  · exact v4_at m ρ c e j
  · exact v12_at m ρ c j

/-- The second region finds the lower part of the joined weights. -/
theorem lower (c : Dev nD) : Lower (Wj m c) (V3 m ρ c main_v10) := by
  intro k j
  refine Eq.trans (congrFun ?_ (ix2 k j)) (v10_at m ρ c k j)
  exact (W3_of m ρ c main_v10 (by decide)).trans (W2_of m ρ c main_v10 (by decide +kernel))

/-- The second result of the program: the state after the last time step. -/
theorem res_state (c : Dev nD) :
    (W5 m ρ c (Proc.devRef .tc main_v17_1) : Vec Ideal S64x1024 .f32) = state (X m c) (Wj m c) (Bj m c) 512 := by
  refine (W5_of m ρ c main_v17_1 (by decide)).trans ((W4_arr m ρ c 3).trans ((Recur.arr_cell (V3 m ρ) c).trans ?_))
  exact cells_eq _ _ _ _ _ (projects m ρ c) (lower m ρ c) 512 (Nat.le_refl _)

/-- The third result of the program: the hidden state of the last time step. -/
theorem res_last (c : Dev nD) :
    (W5 m ρ c (Proc.devRef .tc main_v17_2) : Vec Ideal S64x1024 .f32) = hid (X m c) (Wj m c) (Bj m c) 511 := by
  refine (W5_of m ρ c main_v17_2 (by decide)).trans ((W4_arr m ρ c 4).trans ((Recur.arr_last (V3 m ρ) c).trans ?_))
  exact hid_eq _ _ _ _ _ (projects m ρ c) (lower m ρ c) 511

/-- The first result of the program: the hidden states, batch element first. -/
theorem res_hidden (c : Dev nD) (i : Fin 64) (t : Fin 512) (k : Fin 1024) :
    (W5 m ρ c (Proc.devRef .tc main_v18) : Vec Ideal S64x512x1024 .f32) (ix3 i t k)
      = hid (X m c) (Wj m c) (Bj m c) t (ix2 i k) := by
  refine Eq.trans (b := (W4 m ρ c (Proc.devRef .tc main_v17_0) : Vec Ideal S512x64x1024 .f32) (ix3 t i k)) ?_ ?_
  · unfold_abbrev_sides
    after_reads_at
  · refine (congrFun ((W4_arr m ρ c 2).trans (Recur.arr_hidden (V3 m ρ) c)) (ix3 t i k)).trans ?_
    exact congrFun (hid_eq _ _ _ _ _ (projects m ρ c) (lower m ρ c) t) (ix2 i k)

end Cert.Proof.KernelHost

end
-- ==== Proof.RefStep.lean ====
/-
  One trip of the reference's loop, read at an index: where the loop holds the time-major input, the joined weights and
  biases, the trip's number and the state before it, the trip computes the model's gates, new state and hidden state.
-/
module

public import proofs.«01_k».proof.Proof.KernelHost
public import proofs.«01_k».proof.Proof.Gen.ReferenceIdeal.Run
public import Idealize.ShloMosaic.Lib.DynamicIndex

@[expose] public section

set_option maxRecDepth 16384

noncomputable section

namespace Cert.Proof.RefStep

open Idealize.ShloMosaic Idealize.ShloMosaic.TcCoe
open Cert.ReferenceIdeal Cert.ReferenceIdeal.Gen
open Cert.Proof.Model

variable (x : Vec Ideal S64x512x512 .f32) (w : Vec Ideal ⟨2, ![1536, 4096]⟩ .f32) (b : Vec Ideal S4096 .f32)
  (V : Valuation τ sig (Elt Ideal))

/-- What the loop holds before trip `n`, whose state is `s`. -/
structure Holds (n : ℕ) (s : Vec Ideal S64x1024 .f32) : Prop where
  input : ∀ t i e, (V (Proc.devRef .tc main_v6_0) : Vec Ideal S512x64x512 .f32) (ix3 t i e) = x (ix3 i t e)
  weights : (V (Proc.devRef .tc main_v6_1) : Vec Ideal S1536x4096 .f32) = w
  bias : (V (Proc.devRef .tc main_v6_2) : Vec Ideal S4096 .f32) = b
  trip : (V (Proc.devRef .tc main_v6_3) : IVec S_ 32) = fun _ => BitVec.ofNat 32 n
  before : (V (Proc.devRef .tc main_v6_4) : Vec Ideal S64x1024 .f32) = s

/-- The block of one time step fits in the input at every time step. -/
theorem fits_input (t : Fin 512) : S512x64x512.Slices ![t.val, 0, 0] S1x64x512 :=
  ⟨rfl, fun a => by
    have h := t.isLt
    match a with
    | ⟨0, _⟩ => show t.val + 1 ≤ 512; omega
    | ⟨1, _⟩ => exact Nat.le_of_eq rfl
    | ⟨2, _⟩ => exact Nat.le_of_eq rfl⟩

/-- The trip's number as a start position on the first axis. -/
theorem starts (t : Fin 512) (q : IVec S_ 32) (hq : q = fun _ => BitVec.ofNat 32 t.val) (a : Fin 3) :
    (((![q, constantI S_ 32 0#32, constantI S_ 32 0#32] : Fin 3 → IVec S_ 32)) a (Shape.Idx.first h_S_)).toInt
      = ((![t.val, 0, 0] : Fin 3 → ℕ) a : Int) := by
  subst hq
  match a with
  | ⟨0, _⟩ => exact toInt_ofNat_of_lt (by have := t.isLt; omega)
  | ⟨1, _⟩ => rfl
  | ⟨2, _⟩ => rfl

/-- The block of the input `u` at the trip's number `q`. -/
def slab (u : Vec Ideal S512x64x512 .f32) (q : IVec S_ 32) : Vec Ideal S1x64x512 .f32 :=
  Host.dynamicSlice S1x64x512 u
    (fun k => ((![q, constantI S_ 32 0#32, constantI S_ 32 0#32] : Fin 3 → IVec S_ 32) k (Shape.Idx.first h_S_)).toInt)
    sliceFits_S512x64x512_S1x64x512

/-- The block at time step `t` is the input of that step. -/
theorem slab_at (u : Vec Ideal S512x64x512 .f32) (t : Fin 512) (i : Fin 64) (e : Fin 512) :
    slab u (fun _ => BitVec.ofNat 32 t.val) (ix3 0 i e) = u (ix3 t i e) := by
  refine (congrFun (Host.dynamicSlice_eq_extractStridedSlice S1x64x512 u _ ![t.val, 0, 0] sliceFits_S512x64x512_S1x64x512
    (fits_input t) (starts t _ rfl)) (ix3 0 i e)).trans ?_
  pointwise

/-- The step's block and the state, side by side. -/
def both (d : Vec Ideal S1x64x512 .f32) (s : Vec Ideal S64x1024 .f32) : Vec Ideal S64x1536 .f32 :=
  concatenate (α := Elt Ideal .f32) S64x1536 1 [⟨S64x512, shapeCast S64x512 d shapeCasts_S1x64x512_S64x512⟩, ⟨S64x1024, s⟩]
    concatenates_S64x512_S64x1024_S64x1536_d1

/-- The pre-activations of a trip, of the step's block `d`, the state `s`, the weights `w` and the bias `b`. -/
def pre (d : Vec Ideal S1x64x512 .f32) (s : Vec Ideal S64x1024 .f32) (w : Vec Ideal S1536x4096 .f32) (b : Vec Ideal S4096 .f32) :
    Vec Ideal S64x4096 .f32 :=
  addf (F := Ideal) (φ := .f32)
    (Host.dotGeneral (F := Ideal) (φ₁ := .f32) (φ₂ := .f32) dot_S64x1536_S1536x4096_S64x4096_1_0_0_1_n_n none (both d s) w)
    (broadcastInDim S64x4096 ![0, 1] bcast_S1x4096_S64x4096_0_1 (broadcastInDim S1x4096 ![1] bcast_S4096_S1x4096_1 b))

/-- The product of the block and the state side by side with the joined weights is the sum of the two products. -/
theorem pre_at (d : Vec Ideal S1x64x512 .f32) (s : Vec Ideal S64x1024 .f32) (w : Vec Ideal S1536x4096 .f32)
    (b : Vec Ideal S4096 .f32) (i : Fin 64) (j : Fin 4096) :
    pre d s w b (ix2 i j) = (((∑ e : Fin 512, (d (ix3 0 i e) : EReal) * w (ix2 ⟨e.val, by omega⟩ j))
      + ∑ k : Fin 1024, (s (ix2 i k) : EReal) * w (ix2 ⟨512 + k.val, by omega⟩ j)) + b (ix1 j) : EReal) := by
  unfold pre both
  pointwise

variable {x w b V}

/-- The trip's pre-activations are the model's. -/
theorem gates_at {t : Fin 512} {s : Vec Ideal S64x1024 .f32} (h : Holds x w b V t.val s) (i : Fin 64) (j : Fin 4096) :
    (Value.res_main_while0b_v13 V : Vec Ideal S64x4096 .f32) (ix2 i j) = gates x w b t s i j := by
  have e : (Value.res_main_while0b_v13 V : Vec Ideal S64x4096 .f32)
      = pre (slab (V (Proc.devRef .tc main_v6_0)) (V (Proc.devRef .tc main_v6_3))) (V (Proc.devRef .tc main_v6_4))
          (V (Proc.devRef .tc main_v6_1)) (V (Proc.devRef .tc main_v6_2)) := rfl
  rw [e, h.trip, h.before, h.weights, h.bias, pre_at]
  refine congrArg (fun p : EReal => p + _ + _) (Finset.sum_congr rfl fun k _ => congrArg (fun p : EReal => p * _) ?_)
  exact (slab_at _ t i k).trans (h.input t i k)

/-- The trip's new state is the model's. -/
theorem next_eq {t : Fin 512} {s : Vec Ideal S64x1024 .f32} (h : Holds x w b V t.val s) :
    (Value.res_main_while0b_v39 V : Vec Ideal S64x1024 .f32) = next (gates x w b t s) s := by
  have key := gates_at h
  have hb := h.before
  unfold Value.res_main_while0b_v39
  generalize Value.res_main_while0b_v13 V = G at key ⊢
  generalize V (Proc.devRef .tc main_v6_4) = q at hb ⊢
  subst hb
  funext y
  idx_vars y
  unfold next
  pointwise [key, Ideal.ofBits_one_f32]
  rfl

/-- The trip's hidden state is the model's. -/
theorem emit_eq {t : Fin 512} {s : Vec Ideal S64x1024 .f32} (h : Holds x w b V t.val s) :
    (Value.res_main_while0b_v41 V : Vec Ideal S64x1024 .f32) = emit (gates x w b t s) (next (gates x w b t s) s) := by
  have key := gates_at h
  rw [← next_eq h]
  unfold Value.res_main_while0b_v41
  generalize Value.res_main_while0b_v13 V = G at key ⊢
  generalize Value.res_main_while0b_v39 V = q
  funext y
  idx_vars y
  unfold emit
  pointwise [key, Ideal.ofBits_one_f32]
  rfl

end Cert.Proof.RefStep

end
-- ==== Proof.RefLoop.lean ====
/-
  The reference's loop from its entry: after `n` trips it holds the model's state, and the hidden states of the trips
  made so far. So the three results of the reference in terms of its arguments.
-/
module

public import proofs.«01_k».proof.Proof.RefStep
public import Idealize.ShloMosaic.Lib.WordCmp

@[expose] public section

set_option maxRecDepth 16384

noncomputable section

namespace Cert.Proof.RefLoop

open Idealize.ShloMosaic Idealize.ShloMosaic.TcCoe Idealize.ShloMosaic.StableHlo
open Idealize.SL Idealize.SL.Sem
open Cert.ReferenceIdeal Cert.ReferenceIdeal.Gen Cert.ReferenceIdeal.Value
open Cert.Proof.Model Cert.Proof.RefStep

/-- The block of one time step fits in the results at every time step. -/
theorem fits_result (t : Fin 512) : S512x64x1024.Slices ![t.val, 0, 0] S1x64x1024 :=
  ⟨rfl, fun a => by
    have h := t.isLt
    match a with
    | ⟨0, _⟩ => show t.val + 1 ≤ 512; omega
    | ⟨1, _⟩ => exact Nat.le_of_eq rfl
    | ⟨2, _⟩ => exact Nat.le_of_eq rfl⟩

/-- The results `u` with the block of the trip's number `q` replaced by `p`. -/
def put (u : Vec Ideal S512x64x1024 .f32) (p : Vec Ideal S64x1024 .f32) (q : IVec S_ 32) : Vec Ideal S512x64x1024 .f32 :=
  Host.dynamicUpdateSlice u (broadcastInDim S1x64x1024 ![1, 2] bcast_S64x1024_S1x64x1024_1_2 p)
    (fun k => ((![q, constantI S_ 32 0#32, constantI S_ 32 0#32] : Fin 3 → IVec S_ 32) k (Shape.Idx.first h_S_)).toInt)
    updateFits_S512x64x1024_S1x64x1024

/-- A trip writes the hidden state at its own time step and nothing elsewhere. -/
theorem put_at (u : Vec Ideal S512x64x1024 .f32) (p : Vec Ideal S64x1024 .f32) (t t' : Fin 512) (i : Fin 64) (k : Fin 1024) :
    put u p (fun _ => BitVec.ofNat 32 t.val) (ix3 t' i k) = if t' = t then p (ix2 i k) else u (ix3 t' i k) := by
  refine (congrFun (WordCmp.dynamicUpdateSlice_eq_update u _ _ updateFits_S512x64x1024_S1x64x1024 ![t.val, 0, 0] (fits_result t)
    (starts t _ rfl)) (ix3 t' i k)).trans ?_
  have hin : (∀ a : Fin 3, (![t.val, 0, 0] : Fin 3 → ℕ) a ≤ ((ix3 t' i k : S512x64x1024.Idx) a).val ∧ ((ix3 t' i k : S512x64x1024.Idx) a).val
      < (![t.val, 0, 0] : Fin 3 → ℕ) a + S1x64x1024.size (a.cast (fits_result t).1.symm)) ↔ t' = t := by
    constructor
    · intro h
      have h0 : t.val ≤ t'.val ∧ t'.val < t.val + 1 := h 0
      exact Fin.ext (by omega)
    · rintro rfl a
      match a with
      | ⟨0, _⟩ => exact ⟨Nat.le_refl _, Nat.lt_succ_self _⟩
      | ⟨1, _⟩ => exact ⟨Nat.zero_le _, Nat.lt_of_lt_of_eq i.isLt (Nat.zero_add 64).symm⟩
      | ⟨2, _⟩ => exact ⟨Nat.zero_le _, Nat.lt_of_lt_of_eq k.isLt (Nat.zero_add 1024).symm⟩
  unfold updateSlice
  by_cases h : t' = t
  · rw [if_pos h]
    refine (dif_pos (hin.mpr h)).trans ?_
    pointwise
  · rw [if_neg h]
    exact dif_neg (fun hc => h (hin.mp hc))

variable (m : (ℓ : Loc nD τ sig) → Buf (Elt Ideal) ℓ)

/-- The input of the launch arguments. -/
abbrev X (c : Dev nD) : Vec Ideal S64x512x512 .f32 := m ((c.tc : Thread nD τ).loc main_arg0)
/-- The joined weights of the launch arguments. -/
abbrev Wj (c : Dev nD) : Vec Ideal ⟨2, ![1536, 4096]⟩ .f32 :=
  joined (m ((c.tc : Thread nD τ).loc main_arg1)) (m ((c.tc : Thread nD τ).loc main_arg3))
    (m ((c.tc : Thread nD τ).loc main_arg5)) (m ((c.tc : Thread nD τ).loc main_arg7))
/-- The joined biases of the launch arguments. -/
abbrev Bj (c : Dev nD) : Vec Ideal S4096 .f32 :=
  joinedBias (m ((c.tc : Thread nD τ).loc main_arg2)) (m ((c.tc : Thread nD τ).loc main_arg4))
    (m ((c.tc : Thread nD τ).loc main_arg6)) (m ((c.tc : Thread nD τ).loc main_arg8))

/-- What the loop finds at its entry: the time-major input, the joined weights and biases, trip 0 and a zero state. -/
theorem entry (c : Dev nD) :
    Holds (X m c) (Wj m c) (Bj m c) (entryContents preI m c) 0 (state (X m c) (Wj m c) (Bj m c) 0) where
  input t i e := by
    simp only [entryContents, afterL_cons, afterL_nil]
    unfold_abbrev_sides
    after_reads_at
    refine (congrFun (id_eq _) (ix3 t i e)).trans ?_
    pointwise
  weights := by
    simp only [entryContents, afterL_cons, afterL_nil]
    funext y
    idx_vars y
    unfold_abbrev_sides
    after_reads_at
    refine (congrFun (id_eq _) (ix2 y0 y1)).trans ?_
    pointwise
    unfold joined
    refine dite_congr rfl (fun h => ?_) fun h => dite_congr rfl (fun h' => ?_) fun h' => dite_congr rfl (fun h'' => ?_) fun h'' => ?_
    all_goals after_reads_at
  bias := by
    simp only [entryContents, afterL_cons, afterL_nil]
    funext y
    idx_vars y
    unfold_abbrev_sides
    after_reads_at
    refine (congrFun (id_eq _) (ix1 y0)).trans ?_
    pointwise
    unfold joinedBias
    refine dite_congr rfl (fun h => ?_) fun h => dite_congr rfl (fun h' => ?_) fun h' => dite_congr rfl (fun h'' => ?_) fun h'' => ?_
    all_goals after_reads_at
  trip := ctr_entry m c
  before := by
    simp only [entryContents, afterL_cons, afterL_nil]
    unfold state
    funext y
    idx_vars y
    unfold_abbrev_sides
    after_reads_at
    refine (congrFun (id_eq _) (ix2 y0 y1)).trans ?_
    pointwise
    rfl

/-- After `n` trips the loop holds the model's state before step `n`. -/
theorem holds (c : Dev nD) : ∀ n, n ≤ 512 →
    Holds (X m c) (Wj m c) (Bj m c) (STEP^[n] (entryContents preI m c)) n (state (X m c) (Wj m c) (Bj m c) n)
  | 0, _ => entry m c
  | n + 1, h => by
    have ih := holds c n (by omega)
    rw [Function.iterate_succ_apply']
    refine ⟨fun t i e => ?_, ?_, ?_, ?_, ?_⟩
    · rw [STEP_main_v6_0]; exact ih.input t i e
    · rw [STEP_main_v6_1]; exact ih.weights
    · rw [STEP_main_v6_2]; exact ih.bias
    · rw [STEP_main_v6_3]
      unfold step_main_v6_3
      rw [ih.trip]
      funext y
      exact (BitVec.ofNat_add n 1).symm
    · rw [STEP_main_v6_4]
      unfold step_main_v6_4
      exact (next_eq (t := ⟨n, by omega⟩) ih).trans (state_succ _ _ _ ⟨n, by omega⟩).symm

/-- The hidden state of trip `t` is the model's. -/
theorem emitted (c : Dev nD) (t : Fin 512) :
    (res_main_while0b_v41 (STEP^[t.val] (entryContents preI m c)) : Vec Ideal S64x1024 .f32)
      = hid (X m c) (Wj m c) (Bj m c) t := by
  unfold hid
  rw [state_succ]
  exact emit_eq (holds m c t.val (by omega))

/-- After `n` trips the results hold the hidden states of the first `n` time steps. -/
theorem rows (c : Dev nD) : ∀ n, n ≤ 512 → ∀ (t : Fin 512) (i : Fin 64) (k : Fin 1024), t.val < n →
    ((STEP^[n] (entryContents preI m c)) (Proc.devRef .tc main_v6_6) : Vec Ideal S512x64x1024 .f32) (ix3 t i k)
      = hid (X m c) (Wj m c) (Bj m c) t (ix2 i k)
  | 0, _, _, _, _, h => absurd h (Nat.not_lt_zero _)
  | n + 1, hn, t, i, k, ht => by
    have ih := rows c n (by omega) t i k
    have e := emitted m c ⟨n, by omega⟩
    have q := (holds m c n (by omega)).trip
    rw [Function.iterate_succ_apply', STEP_main_v6_6]
    generalize STEP^[n] (entryContents preI m c) = V at ih e q ⊢
    have hp : (step_main_v6_6 V : Vec Ideal S512x64x1024 .f32)
        = put (V (Proc.devRef .tc main_v6_6)) (res_main_while0b_v41 V) (V (Proc.devRef .tc main_v6_3)) := rfl
    rw [hp, q]
    refine (put_at _ _ ⟨n, by omega⟩ t i k).trans ?_
    by_cases h : t = ⟨n, by omega⟩
    · rw [if_pos h, h]
      exact congrFun e (ix2 i k)
    · rw [if_neg h]
      exact ih (by
        have : t.val ≠ n := fun hc => h (Fin.ext hc)
        omega)

/-- The second result of the reference: the state after the last time step. -/
theorem res_state (c : Dev nD) :
    ((STEP^[512] (entryContents preI m c)) (Proc.devRef .tc main_v6_4) : Vec Ideal S64x1024 .f32)
      = state (X m c) (Wj m c) (Bj m c) 512 :=
  (holds m c 512 (Nat.le_refl _)).before

/-- The third result of the reference: the hidden state of the last time step. -/
theorem res_last (c : Dev nD) :
    ((STEP^[512] (entryContents preI m c)) (Proc.devRef .tc main_v6_5) : Vec Ideal S64x1024 .f32)
      = hid (X m c) (Wj m c) (Bj m c) 511 := by
  rw [Function.iterate_succ_apply' STEP 511, STEP_main_v6_5]
  exact emitted m c 511

/-- The first result of the reference: the hidden states, batch element first. -/
theorem res_hidden (c : Dev nD) (i : Fin 64) (t : Fin 512) (k : Fin 1024) :
    (out_main_v7 (STEP^[512] (entryContents preI m c)) : Vec Ideal S64x512x1024 .f32) (ix3 i t k)
      = hid (X m c) (Wj m c) (Bj m c) t (ix2 i k) := by
  refine Eq.trans ?_ (rows m c 512 (Nat.le_refl _) t i k t.isLt)
  unfold out_main_v7
  generalize (STEP^[512] (entryContents preI m c)) (Proc.devRef .tc main_v6_6) = u
  pointwise

end Cert.Proof.RefLoop

end
-- ==== Proof.Equal.lean ====
/-
  The equation: where the two programs are launched with the same arguments, the three results of the kernel are those of
  the reference, both being the model's hidden states, last state and last hidden state.
-/
module

public import proofs.«01_k».proof.Proof.RefLoop

@[expose] public section

set_option maxRecDepth 16384

noncomputable section

namespace Cert.Proof.Equal

open Idealize.ShloMosaic Idealize.ShloMosaic.TcCoe Idealize.ShloMosaic.StableHlo
open Idealize.SL Idealize.SL.Sem
open Cert.Proof.Model

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- On this device the two launches have the same inputs, the same joined weights and the same joined biases. -/
structure Same : Prop where
  input : RefLoop.X m' c = KernelHost.X m c
  weights : RefLoop.Wj m' c = KernelHost.Wj m c
  bias : RefLoop.Bj m' c = KernelHost.Bj m c

variable {m m' c}

/-- The hidden states of all time steps are the same. -/
theorem hidden (h : Same m m' c) :
    (ReferenceIdeal.Value.out_main_v7 (ReferenceIdeal.Value.STEP^[512] (entryContents ReferenceIdeal.Value.preI m' c))
        : Vec Ideal KernelIdeal.S64x512x1024 .f32)
      = KernelIdeal.Gen.W5 m ρ c (Proc.devRef .tc KernelIdeal.main_v18) := by
  funext y
  idx_vars y
  refine (RefLoop.res_hidden m' c _ _ _).trans (Eq.trans ?_ (KernelHost.res_hidden m ρ c _ _ _).symm)
  rw [h.input, h.weights, h.bias]

/-- The states after the last time step are the same. -/
theorem last_state (h : Same m m' c) :
    ((ReferenceIdeal.Value.STEP^[512] (entryContents ReferenceIdeal.Value.preI m' c)) (Proc.devRef .tc ReferenceIdeal.main_v6_4)
        : Vec Ideal KernelIdeal.S64x1024 .f32)
      = KernelIdeal.Gen.W5 m ρ c (Proc.devRef .tc KernelIdeal.main_v17_1) := by
  refine (RefLoop.res_state m' c).trans (Eq.trans ?_ (KernelHost.res_state m ρ c).symm)
  rw [h.input, h.weights, h.bias]

/-- The hidden states of the last time step are the same. -/
theorem last_hidden (h : Same m m' c) :
    ((ReferenceIdeal.Value.STEP^[512] (entryContents ReferenceIdeal.Value.preI m' c)) (Proc.devRef .tc ReferenceIdeal.main_v6_5)
        : Vec Ideal KernelIdeal.S64x1024 .f32)
      = KernelIdeal.Gen.W5 m ρ c (Proc.devRef .tc KernelIdeal.main_v17_2) := by
  refine (RefLoop.res_last m' c).trans (Eq.trans ?_ (KernelHost.res_last m ρ c).symm)
  rw [h.input, h.weights, h.bias]

end Cert.Proof.Equal

end
-- ==== Proof.lean ====
/-
  The proof of `Cert.Claim`: the programs' frames, the idealization (no operation was rewritten), and the equality of all
  three results of the kernel with those of the reference over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, changes no argument, and leaves every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

/-- From launches that agree on the arguments, the kernel and the reference end with the same three results. -/
theorem equal : algebraic_KernelIdeal_ReferenceIdeal (hKernelIdeal := Cert.KernelIdeal.Gen.facts)
    (hReferenceIdeal := Cert.ReferenceIdeal.Gen.facts) := fun m ρ m' ρ' _ hargs => by
  have same : ∀ c, Equal.Same m m' c := fun c => by
    obtain ⟨h0, h1, h2, h3, h4, h5, h6, h7, h8⟩ := hargs c
    refine ⟨h0, ?_, ?_⟩
    · have e := congr (congr (congr (congrArg Model.joined h1) h3) h5) h7
      exact e
    · have e := congr (congr (congr (congrArg Model.joinedBias h2) h4) h6) h8
      exact e
  refine ⟨fun c => KernelIdeal.Gen.W5 m ρ c (Proc.devRef .tc KernelIdeal.main_v18),
    fun c => KernelIdeal.Gen.W5 m ρ c (Proc.devRef .tc KernelIdeal.main_v17_1),
    fun c => KernelIdeal.Gen.W5 m ρ c (Proc.devRef .tc KernelIdeal.main_v17_2), KernelRun.run m ρ, ?_⟩
  refine (θ_run Cert.ReferenceIdeal.defs _ _).mono (fun r h c => ?_) (Cert.ReferenceIdeal.Value.run m' ρ')
  obtain ⟨r0, r1, r2, args⟩ := h c
  exact ⟨r0.trans (Equal.hidden ρ (same c)), r1.trans (Equal.last_state ρ (same c)), r2.trans (Equal.last_hidden ρ (same c)), args⟩

/-- The three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal⟩

end Cert.Proof

end
